-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S25x1x2000 : Shape := ⟨3, ![25, 1, 2000]⟩
abbrev S_ : Shape := ⟨0, ![]⟩
abbrev S256x128 : Shape := ⟨2, ![256, 128]⟩
abbrev S128 : Shape := ⟨1, ![128]⟩
abbrev S1x128 : Shape := ⟨2, ![1, 128]⟩
abbrev S1x256 : Shape := ⟨2, ![1, 256]⟩
abbrev S128x128 : Shape := ⟨2, ![128, 128]⟩
abbrev S1x1x2000 : Shape := ⟨3, ![1, 1, 2000]⟩
abbrev S2000x512 : Shape := ⟨2, ![2000, 512]⟩
abbrev S128x512 : Shape := ⟨2, ![128, 512]⟩
abbrev S8x128 : Shape := ⟨2, ![8, 128]⟩
abbrev S2000 : Shape := ⟨1, ![2000]⟩
abbrev S1x2000 : Shape := ⟨2, ![1, 2000]⟩
abbrev S128x2000 : Shape := ⟨2, ![128, 2000]⟩
abbrev S128x1 : Shape := ⟨2, ![128, 1]⟩
abbrev S128x256 : Shape := ⟨2, ![128, 256]⟩

abbrev nBuf : Space → Nat
  | .hbm => 17
  | .vmem => 11
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S25x1x2000, .i32⟩
  | .hbm, ⟨7, _⟩ => ⟨S_, .i32⟩
  | .hbm, ⟨8, _⟩ => ⟨S_, .f32⟩
  | .hbm, ⟨9, _⟩ => ⟨S256x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1x256, .f32⟩
  | .hbm, ⟨15, _⟩ => ⟨S128x128, .f32⟩
  | .hbm, ⟨16, _⟩ => ⟨S128x1, .f32⟩
  | .local _ .vmem, ⟨0, _⟩ => ⟨S1x1x2000, .i32⟩
  | .local _ .vmem, ⟨1, _⟩ => ⟨S1x1x2000, .i32⟩
  | .local _ .vmem, ⟨2, _⟩ => ⟨S2000x512, .f32⟩
  | .local _ .vmem, ⟨3, _⟩ => ⟨S2000x512, .f32⟩
  | .local _ .vmem, ⟨4, _⟩ => ⟨S512x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S128x512, .f32⟩
  | .local _ .vmem, ⟨10, _⟩ => ⟨S8x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v25 : BitVec 1 := Scalar.cmpi .eq arg0 c24_i32
  let v26 : BitVec 32 := Scalar.extui v25
  let c0_i32_14 : BitVec 32 := 0#32
  let v27 : BitVec 1 := Scalar.cmpi .ne v26 c0_i32_14
  v27

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S50000x512 : Shape := ⟨2, ![50000, 512]⟩
abbrev S50000 : Shape := ⟨1, ![50000]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S128x512 : Shape := ⟨2, ![128, 512]⟩
abbrev S50000x1 : Shape := ⟨2, ![50000, 1]⟩
abbrev S128x1 : Shape := ⟨2, ![128, 1]⟩
abbrev S128x256 : Shape := ⟨2, ![128, 256]⟩
abbrev S1x256 : Shape := ⟨2, ![1, 256]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S50000, .i32⟩
  | .hbm, ⟨2, _⟩ => ⟨S512x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S_, .f32⟩
  | .hbm, ⟨7, _⟩ => ⟨S128x512, .f32⟩
  | .hbm, ⟨8, _⟩ => ⟨S50000x1, .i32⟩
  | .hbm, ⟨9, _⟩ => ⟨S128x512, .f32⟩
  | .hbm, ⟨10, _⟩ => ⟨S_, .f32⟩
  | .hbm, ⟨11, _⟩ => ⟨S50000x1, .f32⟩
  | .hbm, ⟨12, _⟩ => ⟨S_, .f32⟩
  | .hbm, ⟨13, _⟩ => ⟨S128x1, .f32⟩
  | .hbm, ⟨14, _⟩ => ⟨S50000x1, .i32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x512, .f32⟩
  | .hbm, ⟨20, _⟩ => ⟨S128x512, .f32⟩
  | .hbm, ⟨21, _⟩ => ⟨S128x256, .f32⟩
  | .hbm, ⟨22, _⟩ => ⟨S1x256, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x1, .f32⟩
  | .hbm, ⟨29, _⟩ => ⟨S1x1, .f32⟩
  | .hbm, ⟨30, _⟩ => ⟨S128x1, .f32⟩
  | .hbm, ⟨31, _⟩ => ⟨S128x1, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.Steps.lean ====
module

public import proofs.«01_k».proof.Proof.Gen.KernelIdeal.Frame
public import Idealize.ShloMosaic.Lib.Pipeline.ValueKit
public import Idealize.ShloMosaic.Lib.Pipeline.ReadBack
public import Idealize.ShloMosaic.Lib.WritesUnit
public import Idealize.ShloMosaic.Lib.Pointwise
public import Idealize.ShloMosaic.Lib.Tactic

/-!
# What one grid point computes

The kernel walks 25 grid points. Each one reads a block of 2000 segment numbers and the matching block of 2000 rows,
compares the numbers with the 128 segments, and adds to two accumulators: the sum of the rows of each segment, and the
number of rows of each segment. The first point zeroes both accumulators. The last point also divides, and applies the two
dense layers. Each theorem here gives one entry of what a point leaves.
-/

@[expose] public section
set_option maxRecDepth 16384
noncomputable section

open Idealize.ShloMosaic Idealize.ShloMosaic.TcCoe Idealize.SL.Sem

namespace Cert.KernelIdeal.Steps

open Cert.KernelIdeal Cert.KernelIdeal.Gen

/-- One where the segment number `w` is the segment `g`, zero elsewhere. -/
def hit (w : BitVec 32) (g : Fin 128) : EReal := if w = BitVec.ofNat 32 g.val then 1 else 0

/-- A one-bit comparison of two words, widened and converted, is one or zero. -/
theorem float_eq_bit (a b : BitVec 32) :
    FloatOps.sitofp (F := Ideal) FTy.f32 (BitVec.setWidth 32 (IntOp.cmpi CmpIPredicate.eq a b)) = if a = b then (1 : EReal) else 0 := by
  show (((BitVec.setWidth 32 (IntOp.cmpi CmpIPredicate.eq a b)).toInt : ℝ) : EReal) = _
  by_cases h : a = b
  · subst h
    simp [IntOp.cmpi]
  · have h' : (a == b) = false := beq_eq_false_iff_ne.mpr h
    simp [IntOp.cmpi, h, h']

/-- The comparison table of a block: row `g`, column `r` holds whether the block's number `r` is segment `g`. -/
theorem table_apply (ids : Vec Ideal S1x1x2000 .i32) (g : Fin 128) (r : Fin 2000) :
    k0_pay3 (F := Ideal) ids (ix2 g r) = hit (ids (ix3 0 0 r)) g := by
  pointwise [k0_pay3]
  exact float_eq_bit _ _

/-- The sums after a point: what they were, plus the block's rows of the segment. -/
theorem sums_apply (ids : Vec Ideal S1x1x2000 .i32) (s : Vec Ideal S128x512 .f32) (x : Vec Ideal S2000x512 .f32)
    (g : Fin 128) (d : Fin 512) :
    k0_pay4 (F := Ideal) ids s x (ix2 g d) = s (ix2 g d) + ∑ r : Fin 2000, hit (ids (ix3 0 0 r)) g * x (ix2 r d) := by
  pointwise [k0_pay4]
  simp only [table_apply]

/-- The counts after a point: what they were, plus the number of the block's rows of the segment. -/
theorem counts_apply (ids : Vec Ideal S1x1x2000 .i32) (s : Vec Ideal S1x128 .f32) (g : Fin 128) :
    k0_pay5 (F := Ideal) ids s (ix2 0 g) = s (ix2 0 g) + ∑ r : Fin 2000, hit (ids (ix3 0 0 r)) g := by
  pointwise [k0_pay5]
  simp only [table_apply]

/-- The head: the sums over the counts (at least one), a dense layer cut off below at zero, and a second dense layer. -/
theorem head_apply (s : Vec Ideal S128x512 .f32) (n : Vec Ideal S1x128 .f32) (w₁ : Vec Ideal S512x256 .f32)
    (b₁ : Vec Ideal S1x256 .f32) (w₂ : Vec Ideal S256x128 .f32) (b₂ : Vec Ideal S1x128 .f32) (g k : Fin 128) :
    k0_pay6 (F := Ideal) s n w₁ b₁ w₂ b₂ (ix2 g k)
      = (∑ j : Fin 256, max ((∑ d : Fin 512, Ideal.div (s (ix2 g d)) (max (n (ix2 0 g)) 1) * w₁ (ix2 d j)) + b₁ (ix2 0 j)) 0
          * w₂ (ix2 j k)) + b₂ (ix2 0 k) := by
  pointwise [k0_pay6]

variable (m : (ℓ : Loc nD τ sig) → Buf (Elt Ideal) ℓ)

/-- The row of counts is the first row of the accumulator that holds it. -/
theorem row_eq (h : ∀ a, (![0, 0] : Fin 2 → ℕ) a + (![1, 128] : Fin 2 → ℕ) a ≤ S8x128.size a) (g : Fin 128) :
    (ix2 0 g : S8x128.Idx) = (Rect.unit (s := S8x128) ![0, 0] ![1, 128] h).emb (ix2 0 g) := by
  funext a
  refine Fin.ext ?_
  fin_cases a
  · rfl
  · exact (Nat.zero_add _).symm.trans (congrArg (0 + ·) (Nat.one_mul _).symm)

/-- The first point leaves in the sums the block's rows of the segment. -/
theorem sums_first (c : Dev nD) (t : Fin cfg0.N) (h0 : t.val % 25 = 0) (h1 : ¬ t.val % 25 = 24) (g : Fin 128) (d : Fin 512) :
    (outsAt0 m c t.val t.isLt).2.1 (ix2 g d)
      = ∑ r : Fin 2000, hit (iblk m c 0 t (ix3 0 0 r)) g * iblk m c 1 t (ix2 r d) := by
  rw [outsAt0_A m c t h0 h1]
  frame_out
  erw [sums_apply]
  pointwise [k0_pay1]

/-- A middle point adds to the sums the block's rows of the segment. -/
theorem sums_middle (c : Dev nD) (t : Fin cfg0.N) (h0 : ¬ t.val % 25 = 0) (h1 : ¬ t.val % 25 = 24) (g : Fin 128) (d : Fin 512) :
    (outsAt0 m c t.val t.isLt).2.1 (ix2 g d)
      = (outsAt0 m c (t.val - 1) (by omega)).2.1 (ix2 g d)
        + ∑ r : Fin 2000, hit (iblk m c 0 t (ix3 0 0 r)) g * iblk m c 1 t (ix2 r d) := by
  rw [outsAt0_B m c t h0 h1]
  frame_out
  simp only [read_unread_whole]
  exact sums_apply _ _ _ g d

/-- The first point leaves in the counts the number of the block's rows of the segment. -/
theorem counts_first (c : Dev nD) (t : Fin cfg0.N) (h0 : t.val % 25 = 0) (h1 : ¬ t.val % 25 = 24) (g : Fin 128) :
    (outsAt0 m c t.val t.isLt).2.2 (ix2 0 g) = ∑ r : Fin 2000, hit (iblk m c 0 t (ix3 0 0 r)) g := by
  rw [outsAt0_A m c t h0 h1]
  frame_out
  refine (congrArg _ (row_eq _ g)).trans ((View.canon_cons_emb _ _ _ _).trans ((counts_apply _ _ g).trans ?_))
  rw [View.readCov_eq_canon']
  refine (congrArg (· + _) (congrFun (View.canon_cons_unit_lit (S := S8x128) inb_S8x128_S8x128_0_0 _ [] (by decide)) _)).trans ?_
  pointwise [k0_pay2]

/-- A middle point adds to the counts the number of the block's rows of the segment. -/
theorem counts_middle (c : Dev nD) (t : Fin cfg0.N) (h0 : ¬ t.val % 25 = 0) (h1 : ¬ t.val % 25 = 24) (g : Fin 128) :
    (outsAt0 m c t.val t.isLt).2.2 (ix2 0 g)
      = (outsAt0 m c (t.val - 1) (by omega)).2.2 (ix2 0 g) + ∑ r : Fin 2000, hit (iblk m c 0 t (ix3 0 0 r)) g := by
  rw [outsAt0_B m c t h0 h1]
  frame_out
  simp only [read_unread_whole]
  refine (View.read_writes_cons_unit_of_mem _ _ _ _ _ _ (ix2 0 g) rfl ?_).trans ?_
  · intro a
    fin_cases a
    · rfl
    · exact (Nat.zero_add _).symm
  · refine (counts_apply _ _ g).trans ?_
    rw [View.ld_apply]
    exact congrArg (· + _) (congrArg _ (row_eq _ g).symm)

/-- The last point's output: the head of the sums and counts with the last block added. -/
theorem out_last (c : Dev nD) (t : Fin cfg0.N) (h0 : ¬ t.val % 25 = 0) (h1 : t.val % 25 = 24) (g k : Fin 128) :
    (outsAt0 m c t.val t.isLt).1 (ix2 g k)
      = (∑ j : Fin 256, max ((∑ d : Fin 512,
            Ideal.div ((outsAt0 m c (t.val - 1) (by omega)).2.1 (ix2 g d)
                + ∑ r : Fin 2000, hit (iblk m c 0 t (ix3 0 0 r)) g * iblk m c 1 t (ix2 r d))
              (max ((outsAt0 m c (t.val - 1) (by omega)).2.2 (ix2 0 g) + ∑ r : Fin 2000, hit (iblk m c 0 t (ix3 0 0 r)) g) 1)
              * iblk m c 2 t (ix2 d j)) + iblk m c 3 t (ix2 0 j)) 0
          * iblk m c 4 t (ix2 j k)) + iblk m c 5 t (ix2 0 k) := by
  rw [outsAt0_C m c t h0 h1]
  frame_out
  simp only [read_unread_whole, View.readCov_cons_toLoadRect]
  refine (head_apply _ _ _ _ _ _ g k).trans ?_
  have hc := counts_apply (iblk m c 0 t)
    (View.ld (outsAt0 m c (t.val - 1) (by omega)).2.2 (Rect.unit ![0, 0] ![1, 128] inb_S8x128_S1x128_0_0)) g
  rw [View.ld_apply, show (Rect.unit (s := S8x128) ![0, 0] ![1, 128] inb_S8x128_S1x128_0_0).idx (ix2 0 g) = ix2 0 g from
    (row_eq _ g).symm] at hc
  rw [hc]
  simp only [sums_apply]

end Cert.KernelIdeal.Steps
-- ==== Proof.Blocks.lean ====
module

public import proofs.«01_k».proof.Proof.Gen.KernelIdeal.Frame
public import Idealize.ShloMosaic.Lib.Pipeline.ValueKit
public import Idealize.ShloMosaic.Lib.Pointwise
public import Idealize.ShloMosaic.Lib.Tactic
public import Idealize.ShloMosaic.Lib.Claim
public import Idealize.ShloMosaic.Lib.StableHlo.ReadAt

/-!
# What the blocks hold

The kernel reads its operands block by block. Here each entry of a block is traced to an entry of an argument: block `t` of
the segment numbers and of the rows starts at row `2000 t`; the weights and biases are read whole. The second layer's weights
and bias are padded with columns of zeros to 128 columns; only column 0 matters, and it is the argument's.
-/

@[expose] public section
set_option maxRecDepth 16384
noncomputable section

open Idealize.ShloMosaic Idealize.ShloMosaic.TcCoe Idealize.SL.Sem

namespace Cert.KernelIdeal.Blocks

open Cert.KernelIdeal Cert.KernelIdeal.Gen

variable (m : (ℓ : Loc nD τ sig) → Buf (Elt Ideal) ℓ)

/-- Row `r` of block `t` is a row of the whole. -/
theorem row_lt (t : Fin cfg0.N) (r : Fin 2000) : t.val * 2000 + r.val < 50000 := by
  have h : t.val < 25 := t.isLt.trans_eq N_0
  omega

/-- The block that each window reads at point `t`. -/
theorem idx : ∀ t : Fin cfg0.N, win0_0.index t = ![t.val, 0, 0] ∧ win0_1.index t = ![t.val, 0] ∧ win0_2.index t = ![0, 0]
    ∧ win0_3.index t = ![0, 0] ∧ win0_4.index t = ![0, 0] ∧ win0_5.index t = ![0, 0] := by
  decide +kernel

/-- The segment numbers of block `t`. -/
theorem ids_apply (c : Dev nD) (t : Fin cfg0.N) (r : Fin 2000) :
    iblk m c 0 t (ix3 0 0 r) = m ((c : Thread nD τ).loc main_arg1) (ix1 ⟨t.val * 2000 + r.val, row_lt t r⟩) := by
  have h := row_lt t r
  refine (show _ = V m c main_v0 (ix3 (⟨t.val, t.isLt.trans_eq N_0⟩ : Fin 25) 0 r) from by blk_ext [iblk, idx t]).trans ?_
  unfold V V0
  after_reads_at

/-- The rows of block `t`. -/
theorem rows_apply (c : Dev nD) (t : Fin cfg0.N) (r : Fin 2000) (d : Fin 512) :
    iblk m c 1 t (ix2 r d) = m ((c : Thread nD τ).loc main_arg0) (ix2 ⟨t.val * 2000 + r.val, row_lt t r⟩ d) := by
  have h := row_lt t r
  blk_ext [iblk, V, idx t]

/-- The first layer's weights. -/
theorem w₁_apply (c : Dev nD) (t : Fin cfg0.N) (d : Fin 512) (j : Fin 256) :
    iblk m c 2 t (ix2 d j) = m ((c : Thread nD τ).loc main_arg2) (ix2 d j) := by
  blk_ext [iblk, V, idx t]

/-- The first layer's bias. -/
theorem b₁_apply (c : Dev nD) (t : Fin cfg0.N) (j : Fin 256) :
    iblk m c 3 t (ix2 0 j) = m ((c : Thread nD τ).loc main_arg3) (ix1 j) := by
  refine (show _ = V m c main_v4 (ix2 0 j) from by blk_ext [iblk, idx t]).trans ?_
  unfold V V0
  after_reads_at

/-- Column 0 of the second layer's weights. -/
theorem w₂_apply (c : Dev nD) (t : Fin cfg0.N) (j : Fin 256) :
    iblk m c 4 t (ix2 j 0) = m ((c : Thread nD τ).loc main_arg4) (ix2 j 0) := by
  refine (show _ = V m c main_v1 (ix2 j 0) from by blk_ext [iblk, idx t]).trans ?_
  unfold V V0
  after_reads_at

/-- Entry 0 of the second layer's bias. -/
theorem b₂_apply (c : Dev nD) (t : Fin cfg0.N) :
    iblk m c 5 t (ix2 0 0) = m ((c : Thread nD τ).loc main_arg5) (ix1 0) := by
  refine (show _ = V m c main_v3 (ix2 0 0) from by blk_ext [iblk, idx t]).trans ?_
  unfold V V0
  after_reads_at

end Cert.KernelIdeal.Blocks
-- ==== Proof.Accumulate.lean ====
module

public import proofs.«01_k».proof.Proof.Steps
public import proofs.«01_k».proof.Proof.Blocks

/-!
# What the accumulators and the output array hold

Point by point, the two accumulators hold the sums of the rows, and the numbers of rows, of each segment over the blocks read
so far. The last point has therefore seen every row, and the output array holds the head of the full sums and counts.
-/

@[expose] public section
set_option maxRecDepth 16384
noncomputable section

open Idealize.ShloMosaic Idealize.ShloMosaic.TcCoe Idealize.SL.Sem
open Idealize.ShloMosaic.Pipeline (Dat)

namespace Cert.KernelIdeal.Accumulate

open Cert.KernelIdeal Cert.KernelIdeal.Gen Cert.KernelIdeal.Steps Cert.KernelIdeal.Blocks

variable (m : (ℓ : Loc nD τ sig) → Buf (Elt Ideal) ℓ)

/-- The rows of segment `g` in block `t`, summed at feature `d`. -/
def blockSum (c : Dev nD) (g : Fin 128) (d : Fin 512) (t : Fin cfg0.N) : EReal :=
  ∑ r : Fin 2000, hit (iblk m c 0 t (ix3 0 0 r)) g * iblk m c 1 t (ix2 r d)

/-- The number of rows of segment `g` in block `t`. -/
def blockCount (c : Dev nD) (g : Fin 128) (t : Fin cfg0.N) : EReal :=
  ∑ r : Fin 2000, hit (iblk m c 0 t (ix3 0 0 r)) g

/-- After a point before the last, the sums are over the blocks up to it. -/
theorem sums_after (c : Dev nD) (g : Fin 128) (d : Fin 512) : ∀ (n : ℕ) (hn : n < cfg0.N), n < 24 →
    (outsAt0 m c n hn).2.1 (ix2 g d) = ∑ p : Fin (n + 1), blockSum m c g d ⟨p.val, by omega⟩
  | 0, hn, _ => by
    rw [Fin.sum_univ_one]
    exact sums_first m c ⟨0, hn⟩ rfl (by show ¬ 0 % 25 = 24; decide) g d
  | n + 1, hn, h => by
    rw [Fin.sum_univ_castSucc]
    exact (sums_middle m c ⟨n + 1, hn⟩ (by show ¬ (n + 1) % 25 = 0; omega) (by show ¬ (n + 1) % 25 = 24; omega) g d).trans
      (congrArg (· + _) (sums_after c g d n (by omega) (by omega)))

/-- After a point before the last, the counts are over the blocks up to it. -/
theorem counts_after (c : Dev nD) (g : Fin 128) : ∀ (n : ℕ) (hn : n < cfg0.N), n < 24 →
    (outsAt0 m c n hn).2.2 (ix2 0 g) = ∑ p : Fin (n + 1), blockCount m c g ⟨p.val, by omega⟩
  | 0, hn, _ => by
    rw [Fin.sum_univ_one]
    exact counts_first m c ⟨0, hn⟩ rfl (by show ¬ 0 % 25 = 24; decide) g
  | n + 1, hn, h => by
    rw [Fin.sum_univ_castSucc]
    exact (counts_middle m c ⟨n + 1, hn⟩ (by show ¬ (n + 1) % 25 = 0; omega) (by show ¬ (n + 1) % 25 = 24; omega) g).trans
      (congrArg (· + _) (counts_after c g n (by omega) (by omega)))

/-- The sum of the rows of segment `g` at feature `d`, over all rows. -/
def segSum (c : Dev nD) (g : Fin 128) (d : Fin 512) : EReal :=
  ∑ i : Fin 50000, hit (m ((c : Thread nD τ).loc main_arg1) (ix1 i)) g * m ((c : Thread nD τ).loc main_arg0) (ix2 i d)

/-- The number of rows of segment `g`, over all rows. -/
def segCount (c : Dev nD) (g : Fin 128) : EReal :=
  ∑ i : Fin 50000, hit (m ((c : Thread nD τ).loc main_arg1) (ix1 i)) g

/-- The blocks together are all the rows: sums. -/
theorem blocks_sum (c : Dev nD) (g : Fin 128) (d : Fin 512) :
    ∑ p : Fin 25, blockSum m c g d ⟨p.val, p.isLt.trans_eq N_0.symm⟩ = segSum m c g d := by
  unfold blockSum segSum
  simp only [ids_apply, rows_apply]
  exact Fin.sum_mul_add_fin 25 2000 fun i => hit (m ((c : Thread nD τ).loc main_arg1) (ix1 i)) g
    * m ((c : Thread nD τ).loc main_arg0) (ix2 i d)

/-- The blocks together are all the rows: counts. -/
theorem blocks_count (c : Dev nD) (g : Fin 128) :
    ∑ p : Fin 25, blockCount m c g ⟨p.val, p.isLt.trans_eq N_0.symm⟩ = segCount m c g := by
  unfold blockCount segCount
  simp only [ids_apply]
  exact Fin.sum_mul_add_fin 25 2000 fun i => hit (m ((c : Thread nD τ).loc main_arg1) (ix1 i)) g

/-- The score of segment `g`: the mean of its rows (over at least one), a dense layer cut off below at zero, and the one
column of the second dense layer. -/
def score (c : Dev nD) (g : Fin 128) : EReal :=
  (∑ j : Fin 256, max ((∑ d : Fin 512, Ideal.div (segSum m c g d) (max (segCount m c g) 1)
        * m ((c : Thread nD τ).loc main_arg2) (ix2 d j)) + m ((c : Thread nD τ).loc main_arg3) (ix1 j)) 0
      * m ((c : Thread nD τ).loc main_arg4) (ix2 j 0)) + m ((c : Thread nD τ).loc main_arg5) (ix1 0)

/-- Where the point after `n` is the last, the sums and the last block's rows make the full sums. -/
theorem sums_full (c : Dev nD) (g : Fin 128) (d : Fin 512) (n : ℕ) (h : n + 1 < cfg0.N) (hn : n = 23) :
    (outsAt0 m c n (by omega)).2.1 (ix2 g d) + blockSum m c g d ⟨n + 1, h⟩ = segSum m c g d := by
  rw [sums_after m c g d n _ (by omega), ← blocks_sum m c g d]
  subst hn
  exact (Fin.sum_univ_castSucc (n := 24) fun p => blockSum m c g d ⟨p.val, p.isLt.trans_eq N_0.symm⟩).symm

/-- Where the point after `n` is the last, the counts and the last block's rows make the full counts. -/
theorem counts_full (c : Dev nD) (g : Fin 128) (n : ℕ) (h : n + 1 < cfg0.N) (hn : n = 23) :
    (outsAt0 m c n (by omega)).2.2 (ix2 0 g) + blockCount m c g ⟨n + 1, h⟩ = segCount m c g := by
  rw [counts_after m c g n _ (by omega), ← blocks_count m c g]
  subst hn
  exact (Fin.sum_univ_castSucc (n := 24) fun p => blockCount m c g ⟨p.val, p.isLt.trans_eq N_0.symm⟩).symm

/-- Column 0 of the output block after the last point is the scores. -/
theorem out_score (c : Dev nD) (g : Fin 128) (n : ℕ) (h : n + 1 < cfg0.N) (hn : n = 23) :
    (outsAt0 m c (n + 1) h).1 (ix2 g 0) = score m c g := by
  refine (out_last m c ⟨n + 1, h⟩ (by show ¬ (n + 1) % 25 = 0; omega) (by show (n + 1) % 25 = 24; omega) g 0).trans ?_
  unfold score
  simp only [← sums_full m c g _ n h hn, ← counts_full m c g n h hn, blockSum, blockCount, w₁_apply, b₁_apply, w₂_apply,
    b₂_apply]
  rfl

/-- The last point. -/
def last : Fin cfg0.N := ⟨24, by decide⟩

/-- Column 0 of the output array after the run is the scores. -/
theorem array_apply (c : Dev nD) (g : Fin 128) : (dats m 0 c).arrAt 6 cfg0.N (ix2 g 0) = score m c g := by
  have h : (dats m 0 c).arrAt 6 cfg0.N = (outsAt0 m c last.val last.isLt).1 := by
    refine (dats m 0 c).arrAt_eq_of_after_last 6 last (by decide +kernel) _ fun j => ?_
    blk_simp
    rw [after0_6]
  exact (congrFun h _).trans (out_score m c g 23 last.isLt rfl)

end Cert.KernelIdeal.Accumulate
-- ==== Proof.KernelValue.lean ====
module

public import proofs.«01_k».proof.Proof.Accumulate
public import Idealize.ShloMosaic.Lib.Claim

/-!
# What the kernel's program returns

The program returns column 0 of the output array: the score of every segment.
-/

@[expose] public section
set_option maxRecDepth 16384
noncomputable section

open Idealize.ShloMosaic Idealize.ShloMosaic.TcCoe Idealize.SL.Sem

namespace Cert.KernelIdeal.Value

open Cert.KernelIdeal Cert.KernelIdeal.Gen Cert.KernelIdeal.Accumulate

variable (m : (ℓ : Loc nD τ sig) → Buf (Elt Ideal) ℓ)

/-- The column that the last operation cuts out of the output array is the scores. -/
theorem result_eq (c : Dev nD) :
    Pipeline.afterTail₀ cfgs (dats m) 0 (V0 m) [hostOps1] c main_v6 = (fun j : S128x1.Idx => score m c (j 0)) := by
  funext j
  obtain ⟨g, k, rfl⟩ : ∃ (g : Fin 128) (k : Fin 1), j = ix2 g k := ⟨j 0, j 1, (ix2_eta j).symm⟩
  obtain rfl : k = 0 := Subsingleton.elim _ _
  unfold Pipeline.afterTail₀
  after_reads_at
  exact (congrFun (Pipeline.withArrays_arr (cfgs 0).spec (by decide) c (V0 m c) (fun w => (dats m 0 c).arrAt w (cfgs 0).N) 6)
    (ix2 g 0)).trans (array_apply m c g)

/-- The kernel's run: on every device the result is the scores, and the arguments are unchanged. -/
theorem run_score (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = (fun j : S128x1.Idx => score m c (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.2 c).2 main_v6 (Pipeline.mem_restRefs_of main_v6 (by decide) (by decide))).trans
    (result_eq m c), h.1 c⟩) (θ_run_and (unchanged m ρ) (run_main m ρ))

end Cert.KernelIdeal.Value
-- ==== Proof.SegmentSum.lean ====
module

public import Idealize.ShloMosaic.PureOps.Ideal
public import Idealize.ShloMosaic.Lib.Routing.OpsPair
public import Idealize.ShloMosaic.Lib.Pointwise
public import Idealize.ShloMosaic.Lib.Tactic

/-!
# A segment sum, read at an entry

A segment sum is a scatter that adds: row `i` of the updates is added to the row of the operand that number `i` names. A number
that names no row is dropped. Entry `(g, f)` of the result is therefore the operand's entry plus the entries `(i, f)` of the
updates over the rows `i` whose number is `g`.
-/

@[expose] public section
noncomputable section

open Idealize.ShloMosaic

namespace Cert.SegmentSum

variable {G N C : ℕ}

/-- Entry `(i, e)` of the updates is added at `(g, f)` exactly when number `i`, read signed, is `g`, and `e` is `f`. -/
theorem lands_iff (d : ScatterDims (⟨2, ![G, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) 32) (i : Fin N) (e : Fin C) (g : Fin G) (f : Fin C) :
    d.resultIdx? (ix2 i e) idx = some (ix2 g f) ↔ (idx (ix2 i 0)).toInt = (g.val : ℤ) ∧ e = f := by
  obtain ⟨uw, iw, sd, iv, wf⟩ := d
  subst huw hiw hsd hiv
  rw [Routing.resultIdx?_eq_some]
  have hs0 : ∀ h, (ScatterDims.mk [1] [0] [0] 1 h : ScatterDims (⟨2, ![G, C]⟩ : Shape) (⟨2, ![N, 1]⟩ : Shape) (⟨2, ![N, C]⟩ : Shape)).start
      (ix2 i e) idx 0 = (idx (ix2 i 0)).toInt := fun h => by
    unfold ScatterDims.start
    rw [dif_pos (List.mem_singleton.2 rfl)]
    refine congrArg (fun k => (idx k).toInt) (funext fun b => ?_)
    match b with
    | ⟨0, _⟩ => rfl
    | ⟨1, _⟩ => exact Subsingleton.elim (α := Fin 1) _ _
  have hs1 : ∀ h, (ScatterDims.mk [1] [0] [0] 1 h : ScatterDims (⟨2, ![G, C]⟩ : Shape) (⟨2, ![N, 1]⟩ : Shape) (⟨2, ![N, C]⟩ : Shape)).start
      (ix2 i e) idx 1 = 0 := fun h => by
    unfold ScatterDims.start
    exact dif_neg fun q => absurd (List.mem_singleton.1 q) (by decide : (1 : Fin 2) ≠ 0)
  have hw0 : ∀ h, (ScatterDims.mk [1] [0] [0] 1 h : ScatterDims (⟨2, ![G, C]⟩ : Shape) (⟨2, ![N, 1]⟩ : Shape) (⟨2, ![N, C]⟩ : Shape)).window
      (ix2 i e) 0 = 0 := fun h => by
    unfold ScatterDims.window
    exact dif_neg fun q => (of_decide_eq_true (List.mem_filter.1 q).2) (List.mem_singleton.2 rfl)
  have hw1 : ∀ h, (ScatterDims.mk [1] [0] [0] 1 h : ScatterDims (⟨2, ![G, C]⟩ : Shape) (⟨2, ![N, 1]⟩ : Shape) (⟨2, ![N, C]⟩ : Shape)).window
      (ix2 i e) 1 = e.val := fun h => rfl
  constructor
  · intro h
    have h0 := h 0
    have h1 := h 1
    rw [hs0, hw0] at h0
    rw [hs1, hw1] at h1
    refine ⟨by simpa using h0, Fin.ext ?_⟩
    have h1' : (0 : ℤ) + (e.val : ℤ) = (f.val : ℤ) := h1
    omega
  · rintro ⟨h, rfl⟩ a
    match a with
    | ⟨0, _⟩ =>
      refine (congrArg₂ (fun (p : ℤ) (q : ℕ) => p + (q : ℤ)) (hs0 _) (hw0 _)).trans ?_
      simpa using h
    | ⟨1, _⟩ =>
      refine (congrArg₂ (fun (p : ℤ) (q : ℕ) => p + (q : ℤ)) (hs1 _) (hw1 _)).trans ?_
      simp

/-- A segment sum at an entry: the operand's, plus the updates' in that column over the rows of the segment. -/
theorem scatterAdd_apply (d : ScatterDims (⟨2, ![G, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : FVec Ideal (⟨2, ![G, C]⟩ : Shape) .f32) (idx : IVec (⟨2, ![N, 1]⟩ : Shape) 32)
    (upd : FVec Ideal (⟨2, ![N, C]⟩ : Shape) .f32) (g : Fin G) (f : Fin C) :
    Host.scatterAdd d x idx upd (ix2 g f)
      = x (ix2 g f) + ∑ i : Fin N, if (idx (ix2 i 0)).toInt = (g.val : ℤ) then upd (ix2 i f) else (0 : EReal) := by
  show (x (ix2 g f) : EReal) + ∑ j ∈ Finset.univ.filter (fun j => d.resultIdx? j idx = some (ix2 g f)), (upd j : EReal) = _
  refine congrArg ((x (ix2 g f) : EReal) + ·) ?_
  rw [Finset.sum_filter, sum_idx2]
  refine Finset.sum_congr rfl fun i _ => ?_
  simp only [lands_iff d huw hiw hsd hiv]
  by_cases h : (idx (ix2 i 0)).toInt = (g.val : ℤ)
  · simp only [h, true_and, if_true]
    exact (Finset.sum_ite_eq' Finset.univ f fun e => (upd (ix2 i e) : EReal)).trans (if_pos (Finset.mem_univ f))
  · simp only [h, false_and, if_false]
    exact Finset.sum_const_zero

end Cert.SegmentSum
-- ==== Proof.RefValue.lean ====
module

public import proofs.«01_k».proof.Proof.Gen.ReferenceIdeal.Run
public import proofs.«01_k».proof.Proof.SegmentSum
public import Idealize.ShloMosaic.Lib.Claim

/-!
# What the reference computes

The reference's result at a segment: the sum of the segment's rows over their number (at least one), a dense layer cut off
below at zero, and a dense layer of one column.
-/

@[expose] public section
set_option maxRecDepth 16384
noncomputable section

open Idealize.ShloMosaic Idealize.ShloMosaic.TcCoe Idealize.SL.Sem

namespace Cert.ReferenceIdeal.Value

open Cert.ReferenceIdeal

/-- The sum of the rows of segment `g` at feature `d`. -/
def segSum (ids : Vec Ideal S50000 .i32) (x : Vec Ideal S50000x512 .f32) (g : Fin 128) (d : Fin 512) : EReal :=
  ∑ i : Fin 50000, if (ids (ix1 i)).toInt = (g.val : ℤ) then x (ix2 i d) else 0

/-- The number of rows of segment `g`. -/
def segCount (ids : Vec Ideal S50000 .i32) (g : Fin 128) : EReal :=
  ∑ i : Fin 50000, if (ids (ix1 i)).toInt = (g.val : ℤ) then 1 else 0

/-- The reference's sums: the rows added at the segments that their numbers name, from zero. -/
theorem sums_apply (ids : Vec Ideal S50000 .i32) (x : Vec Ideal S50000x512 .f32) (g : Fin 128) (d : Fin 512) :
    Host.scatterAdd (F := Ideal) scatter_S128x512_S50000x1_S50000x512_1_0_0_1
        (broadcastInDim S128x512 ![] Gen.bcast_S_S128x512 (constant S_ FTy.f32 0#32))
        (broadcastInDim S50000x1 ![0] Gen.bcast_S50000_S50000x1_0 ids) x (ix2 g d)
      = segSum ids x g d := by
  refine (SegmentSum.scatterAdd_apply _ rfl rfl rfl rfl _ _ _ g d).trans ?_
  unfold segSum
  pointwise

/-- The reference's counts: ones added at the segments that the rows' numbers name, from zero. -/
theorem counts_apply (ids : Vec Ideal S50000 .i32) (g : Fin 128) :
    Host.scatterAdd (F := Ideal) scatter_S128x1_S50000x1_S50000x1_1_0_0_1
        (broadcastInDim S128x1 ![] Gen.bcast_S_S128x1 (constant S_ FTy.f32 0#32))
        (broadcastInDim S50000x1 ![0] Gen.bcast_S50000_S50000x1_0 ids)
        (broadcastInDim S50000x1 ![] Gen.bcast_S_S50000x1 (constant S_ FTy.f32 1065353216#32)) (ix2 g 0)
      = segCount ids g := by
  refine (SegmentSum.scatterAdd_apply _ rfl rfl rfl rfl _ _ _ g 0).trans ?_
  unfold segCount
  pointwise

/-- The score of segment `g`. -/
def score (x : Vec Ideal S50000x512 .f32) (ids : Vec Ideal S50000 .i32) (w₁ : Vec Ideal S512x256 .f32) (b₁ : Vec Ideal S256 .f32)
    (w₂ : Vec Ideal S256x1 .f32) (b₂ : Vec Ideal S1 .f32) (g : Fin 128) : EReal :=
  (∑ j : Fin 256, max ((∑ d : Fin 512, Ideal.div (segSum ids x g d) (max (segCount ids g) 1) * w₁ (ix2 d j)) + b₁ (ix1 j)) 0
    * w₂ (ix2 j 0)) + b₂ (ix1 0)

/-- The reference's run: on every device the result is the scores, and the arguments are unchanged. -/
theorem run_score (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v20) = (fun j : S128x1.Idx => score (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun j => ?_), (h c).2⟩) (run (F := Ideal) m ρ)
  obtain ⟨g, k, rfl⟩ : ∃ (g : Fin 128) (k : Fin 1), j = ix2 g k := ⟨j 0, j 1, (ix2_eta j).symm⟩
  obtain rfl : k = 0 := Subsingleton.elim _ _
  pointwise
  have hs := sums_apply (m ((c.tc : Thread nD τ).loc main_arg1)) (m ((c.tc : Thread nD τ).loc main_arg0)) g
  have hc := counts_apply (m ((c.tc : Thread nD τ).loc main_arg1)) g
  simp only [hs]
  rw [hc]
  rfl

end Cert.ReferenceIdeal.Value
-- ==== Proof.Equation.lean ====
module

public import proofs.«01_k».proof.Proof.KernelValue
public import proofs.«01_k».proof.Proof.RefValue
public import Idealize.ShloMosaic.Lib.WordCmp

/-!
# The kernel's scores are the reference's

The kernel multiplies every row by one or by zero and adds all of them; the reference adds only the rows of the segment. A row
times one is the row, and a row times zero is zero whatever the row holds, an infinity too. So the sums, the counts and the
scores agree, for all arguments.
-/

@[expose] public section
set_option maxRecDepth 16384
noncomputable section

open Idealize.ShloMosaic Idealize.ShloMosaic.TcCoe Idealize.SL.Sem

namespace Cert.Equation

open Cert.KernelIdeal.Steps (hit)

/-- A word is the number `g` of a segment exactly when, read signed, it is `g`. -/
theorem eq_iff_toInt (w : BitVec 32) (g : Fin 128) : w = BitVec.ofNat 32 g.val ↔ w.toInt = (g.val : ℤ) := by
  have hg : (BitVec.ofNat 32 g.val).toInt = (g.val : ℤ) := StableHlo.Predicate.toInt_ofNat_small _ (by omega)
  rw [← hg]
  exact BitVec.toInt_inj.symm

/-- The kernel's factor times a value: the value where the number is the segment's, zero elsewhere. -/
theorem hit_mul (w : BitVec 32) (g : Fin 128) (x : EReal) : hit w g * x = if w.toInt = (g.val : ℤ) then x else 0 := by
  unfold hit
  simp only [eq_iff_toInt]
  split
  · exact one_mul x
  · exact zero_mul x

/-- The kernel's factor: one where the number is the segment's, zero elsewhere. -/
theorem hit_eq (w : BitVec 32) (g : Fin 128) : hit w g = if w.toInt = (g.val : ℤ) then 1 else 0 :=
  (mul_one _).symm.trans (hit_mul w g 1)

variable (m : (ℓ : Loc Cert.KernelIdeal.nD Cert.KernelIdeal.τ Cert.KernelIdeal.sig) → Buf (Elt Ideal) ℓ)

/-- The kernel's score of a segment is the reference's at the same arguments. -/
theorem score_eq (c : Dev Cert.KernelIdeal.nD) (g : Fin 128) :
    Cert.KernelIdeal.Accumulate.score m c g
      = Cert.ReferenceIdeal.Value.score (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) g := by
  unfold Cert.KernelIdeal.Accumulate.score Cert.ReferenceIdeal.Value.score
  have hs : ∀ d, Cert.KernelIdeal.Accumulate.segSum m c g d = Cert.ReferenceIdeal.Value.segSum
      (m ((c : Thread Cert.KernelIdeal.nD Cert.KernelIdeal.τ).loc Cert.KernelIdeal.main_arg1))
      (m ((c : Thread Cert.KernelIdeal.nD Cert.KernelIdeal.τ).loc Cert.KernelIdeal.main_arg0)) g d :=
    fun d => Finset.sum_congr rfl fun i _ => hit_mul _ g _
  have hc : Cert.KernelIdeal.Accumulate.segCount m c g = Cert.ReferenceIdeal.Value.segCount
      (m ((c : Thread Cert.KernelIdeal.nD Cert.KernelIdeal.τ).loc Cert.KernelIdeal.main_arg1)) g :=
    Finset.sum_congr rfl fun i _ => hit_eq _ g
  simp only [hs, hc]

end Cert.Equation
-- ==== Proof.lean ====
/- The certificate: the kernel, its idealization and the reference each run to the end and leave their arguments unchanged; the
   idealization preserves the kernel; and the idealized kernel and the reference return the same scores for all arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end, its counters at zero and its arguments unchanged. -/
theorem frame_kernel : @Cert.quiescent_Kernel Cert.Kernel.Gen.facts := fun m ρ _ => Cert.Kernel.Gen.frame m ρ

/-- So does its idealization. -/
theorem frame_kernelIdeal : @Cert.quiescent_KernelIdeal Cert.KernelIdeal.Gen.facts := fun m ρ _ => Cert.KernelIdeal.Gen.frame m ρ

/-- So does the reference. -/
theorem frame_reference : @Cert.quiescent_ReferenceIdeal Cert.ReferenceIdeal.Gen.facts := fun m ρ _ =>
  (θ_run _ _ _).mono (fun r h => ⟨fun c => (h c).2, sem_eq_zero_of_no_sems rfl r.2⟩) (Cert.ReferenceIdeal.Value.run_score m ρ)

/-- The idealization preserves the kernel. -/
theorem preserves : Cert.preserves_Kernel_KernelIdeal := trivial

/-- The idealized kernel and the reference return the same scores, for all arguments. -/
theorem algebraic : @Cert.algebraic_KernelIdeal_ReferenceIdeal Cert.KernelIdeal.Gen.facts Cert.ReferenceIdeal.Gen.facts := by
  intro m g m' g' _ h
  refine ⟨fun c j => Cert.KernelIdeal.Accumulate.score m c (j 0), Cert.KernelIdeal.Value.run_score m g, ?_⟩
  refine (θ_run _ _ _).mono (fun r hr c => ⟨(hr c).1.trans (funext fun j => ?_), (hr c).2⟩)
    (Cert.ReferenceIdeal.Value.run_score m' g')
  obtain ⟨h0, h1, h2, h3, h4, h5⟩ := h c
  simp only [h0, h1, h2, h3, h4, h5]
  exact (Cert.Equation.score_eq m c (j 0)).symm

/-- Everything the certificate claims. -/
theorem claim : Cert.Claim := ⟨Cert.Kernel.Gen.facts, Cert.KernelIdeal.Gen.facts, Cert.ReferenceIdeal.Gen.facts,
  frame_kernel, frame_kernelIdeal, frame_reference, preserves, algebraic⟩

end Cert.Proof

end
